-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v11) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x1024 : Shape := ⟨2, ![4096, 1024]⟩
abbrev S8192x1024 : Shape := ⟨2, ![8192, 1024]⟩
abbrev S1x1024 : Shape := ⟨2, ![1, 1024]⟩
abbrev S8x1024 : Shape := ⟨2, ![8, 1024]⟩
abbrev S1024 : Shape := ⟨1, ![1024]⟩

abbrev nBuf : Space → Nat
  | .hbm => 3
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S1x1024, .f32⟩
  | .local _ .vmem, ⟨0, _⟩ => ⟨S8x1024, .f32⟩
  | .local _ .vmem, ⟨1, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference.lean ====
abbrev S4096x1024 : Shape := ⟨2, ![4096, 1024]⟩
abbrev S8192x1024 : Shape := ⟨2, ![8192, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S_, .i1⟩
  | .hbm, ⟨19, _⟩ => ⟨S4096, .i1⟩
  | .hbm, ⟨20, _⟩ => ⟨S4096, .i1⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S8192x1024, .f32⟩
  | .hbm, ⟨34, _⟩ => ⟨S1, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S1, .i1⟩
  | .hbm, ⟨46, _⟩ => ⟨S_, .i32⟩
  | .hbm, ⟨47, _⟩ => ⟨S1, .i32⟩
  | .hbm, ⟨48, _⟩ => ⟨S1, .i1⟩
  | .hbm, ⟨49, _⟩ => ⟨S_, .i32⟩
  | .hbm, ⟨50, _⟩ => ⟨S_, .i1⟩
  | .hbm, ⟨51, _⟩ => ⟨S1, .i1⟩
  | .hbm, ⟨52, _⟩ => ⟨S1, .i1⟩
  | .hbm, ⟨53, _⟩ => ⟨S1, .i1⟩
  | .hbm, ⟨54, _⟩ => ⟨S1, .i32⟩
  | .hbm, ⟨55, _⟩ => ⟨S1, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i1⟩
  | .hbm, ⟨60, _⟩ => ⟨S_, .i32⟩
  | .hbm, ⟨61, _⟩ => ⟨S1, .i32⟩
  | .hbm, ⟨62, _⟩ => ⟨S1, .i32⟩
  | .hbm, ⟨63, _⟩ => ⟨S1, .i32⟩
  | .hbm, ⟨64, _⟩ => ⟨S1x1, .i32⟩
  | .hbm, ⟨65, _⟩ => ⟨S1, .i32⟩
  | .hbm, ⟨66, _⟩ => ⟨S_, .i32⟩
  | .hbm, ⟨67, _⟩ => ⟨S1x1, .i32⟩
  | .hbm, ⟨68, _⟩ => ⟨S1x1, .i1⟩
  | .hbm, ⟨69, _⟩ => ⟨S1x1, .i32⟩
  | .hbm, ⟨70, _⟩ => ⟨S1x1, .i1⟩
  | .hbm, ⟨71, _⟩ => ⟨S1x1, .i1⟩
  | .hbm, ⟨72, _⟩ => ⟨S_, .i1⟩
  | .hbm, ⟨73, _⟩ => ⟨S1, .i1⟩
  | .hbm, ⟨74, _⟩ => ⟨S1x1024, .f32⟩
  | .hbm, ⟨75, _⟩ => ⟨S1x1024, .i1⟩
  | .hbm, ⟨76, _⟩ => ⟨S_, .f32⟩
  | .hbm, ⟨77, _⟩ => ⟨S1x1024, .f32⟩
  | .hbm, ⟨78, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v10 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_c_3 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v11 : Ref sig .tc := ⟨.hbm, 78, rfl⟩

abbrev nD : Nat := 1
abbrev τ : Topo := Topo.v7x

variable {F : FTy → Type} [FloatOps F]
-- ==== Proof.KernelIdealRow.lean ====
/-
  What the kernel of `KernelIdeal` leaves in its result array: row 0 of `inputs`.
-/
module

public import proofs.«01_k».proof.Proof.Gen.KernelIdeal.Value
public import Idealize.ShloMosaic.Lib.Routing.Shapes

@[expose] public section

noncomputable section

namespace Cert.KernelIdealRow

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (ρ : Dev nD → PrngReg)

/-- Row 0 of device `c`'s `inputs`, as a `(1, 1024)` array. -/
abbrev row0 (c : Dev nD) : Buf (Elt F) ((c : Thread nD τ).loc main_v0) :=
  fun y : S1x1024.Idx => (m ((c : Thread nD τ).loc main_arg0) : S4096x1024.Idx → Elt F .f32) (ix2 (0 : Fin 4096) (y 1))

/-- What the body leaves in the result's block: row 0 of its block of `inputs`. -/
theorem out_row (x : Vec F S8x1024 .f32) : out0_1 x = fun y : S1x1024.Idx => x (ix2 (0 : Fin 8) (y 1)) := by
  funext y
  refine (Value.canon1_eq (View.ld x r0_0) y).trans (congrArg x (funext fun a => Fin.ext ?_))
  match a with
  | ⟨0, _⟩ => rfl
  | ⟨1, _⟩ => exact (Nat.zero_add _).trans (Nat.one_mul _)

/-- The one grid point writes back row 0: its block of `inputs` is rows 0 to 7, of which the body stores the first. -/
theorem flushed_row (c : Dev nD) (t : Fin cfg0.N) :
    (dats m 0 c).flushed 1 t = (win0_1.blk t).view.read (Elt F) (row0 m c) := by
  rw [Value.flushed1]
  rw [out_row]
  rcases fin_N0 t with rfl
  funext y
  have e : ∀ a, win0_0.index t0_0 a * win0_0.size a = 0 := by decide +kernel
  have e' : ∀ a, win0_1.index t0_0 a * win0_1.size a = 0 := by decide +kernel
  refine congrArg (m ((c : Thread nD τ).loc main_arg0)) (funext fun a => Fin.ext ?_)
  match a with
  | ⟨0, _⟩ =>
    show win0_0.index t0_0 0 * win0_0.size 0 + 1 * 0 = 0
    rw [e]
  | ⟨1, _⟩ =>
    show win0_0.index t0_0 1 * win0_0.size 1 + 1 * (y 1).val = win0_1.index t0_0 1 * win0_1.size 1 + 1 * (y 1).val
    rw [e, e']

/-- The result's one block is its whole array. -/
theorem cover_row (i : S1x1024.Idx) : ∃ t : Fin cfg0.N, (cfg0.win 1).flush t = true ∧ i ∈ ((cfg0.win 1).blk t).view.set := by
  refine ⟨t0_0, flush0_1 _, ?_⟩
  show i ∈ ((View.whole main_v0).slice (win0_1.rect t0_0)).set
  rw [View.set_slice_whole, Rect.mem_set_unit]
  have e : ∀ a, win0_1.index t0_0 a * win0_1.size a = 0 ∧ win0_1.xsize (grid0.coords t0_0) a = S1x1024.size a := by
    decide +kernel
  intro a
  have hi : (i a : Nat) < S1x1024.size a := (i a).isLt
  show win0_1.index t0_0 a * win0_1.size a ≤ (i a : Nat)
    ∧ (i a : Nat) < win0_1.index t0_0 a * win0_1.size a + win0_1.xsize (grid0.coords t0_0) a
  rw [(e a).1, (e a).2]
  omega

/-- So the result array ends as row 0 of `inputs`. -/
theorem final_row (c : Dev nD) : (dats m 0 c).arrAt 1 cfg0.N = row0 m c :=
  (dats m 0 c).arrAt_eq_of_cover 1 (row0 m c) (fun t _ => flushed_row m c t) cover_row

/-- The run: the result is row 0 of `inputs`, the arguments are unchanged. -/
theorem run_row : θ_run defs (onTc (τ := τ) (main (F := F))) ⟨m, fun _ => 0, ρ⟩ fun r => ∀ c : Dev nD,
      r.2.mem ((c : Thread nD τ).loc main_v0) = row0 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_row m c), (h c).2⟩) (Value.run_blocks m ρ)

end Cert.KernelIdealRow
-- ==== Proof.RowMoves.lean ====
/-
  Rows of a matrix written by a scatter, read at one element, for any sizes. Nothing here names a program.
-/
module

public import Idealize.ShloMosaic.Lib.Routing.Ops
public import Idealize.ShloMosaic.Lib.Routing.OpsPair
public import Idealize.ShloMosaic.Lib.Routing.OpsSet

@[expose] public section

namespace Cert.RowMoves

open Idealize.ShloMosaic Idealize.ShloMosaic.ValueIdx Idealize.ShloMosaic.Routing

variable {R C U w : Nat} (d : ScatterDims (shape2 R C) (shape2 U 1) (shape2 U C))

/-- The scatter of `U` whole rows into an `[R, C]` matrix, one row number each: element `(i, j)` of the updates lands at
    `(r, c)` exactly when row number `i`, read signed, is `r`, and the columns are the same. -/
theorem row_lands (huw : d.updateWindowDims = [1]) (hiw : d.insertedWindowDims = [0])
    (hsd : d.scatterDimsToOperandDims = [0]) (hivd : d.indexVectorDim = 1) (idx : IVec (shape2 U 1) w)
    (i : Fin U) (j : Fin C) (r : Fin R) (c : Fin C) :
    d.resultIdx? (ix2 i j) idx = some (ix2 r c) ↔ (idx (ix2 i (0 : Fin 1))).toInt = (r.val : Int) ∧ j = c := by
  obtain ⟨uw, iw, sd, iv, wf⟩ := d
  dsimp only at huw hiw hsd hivd
  subst huw hiw hsd hivd
  have hw0 : (ScatterDims.mk (s := shape2 R C) (si := shape2 U 1) (u := shape2 U C) [1] [0] [0] 1 wf).window (ix2 i j) 0 = 0 := rfl
  have hw1 : (ScatterDims.mk (s := shape2 R C) (si := shape2 U 1) (u := shape2 U C) [1] [0] [0] 1 wf).window (ix2 i j) 1 = j.val := rfl
  have hs1 : (ScatterDims.mk (s := shape2 R C) (si := shape2 U 1) (u := shape2 U C) [1] [0] [0] 1 wf).start (ix2 i j) idx 1 = 0 := rfl
  have hs0 : (ScatterDims.mk (s := shape2 R C) (si := shape2 U 1) (u := shape2 U C) [1] [0] [0] 1 wf).start (ix2 i j) idx 0
      = (idx (ix2 i (0 : Fin 1))).toInt := by
    refine congrArg (fun k => (idx k).toInt) (funext fun b => ?_)
    match b with
    | ⟨0, _⟩ => rfl
    | ⟨1, _⟩ => rfl
  rw [resultIdx?_ix2, hw0, hw1, hs0, hs1, Fin.ext_iff]
  omega

/-- The scatter that SETS `U` rows at the row numbers `0, 1, …, U - 1` in order: a row below `U` of the result is that row
    of the updates. -/
theorem scatter_rows {α : Type} (huw : d.updateWindowDims = [1]) (hiw : d.insertedWindowDims = [0])
    (hsd : d.scatterDimsToOperandDims = [0]) (hivd : d.indexVectorDim = 1) (x : (shape2 R C).Idx → α)
    (idx : IVec (shape2 U 1) w) (upd : (shape2 U C).Idx → α)
    (hidx : ∀ i : Fin U, (idx (ix2 i (0 : Fin 1))).toInt = (i.val : Int)) (r : Fin R) (i : Fin U) (hri : r.val = i.val) (c : Fin C) :
    Host.scatter d (fun _ b => b) x idx upd (ix2 r c) = upd (ix2 i c) := by
  refine scatter_set_hit d x idx upd _ _ (fun k hk => ?_) (ix2 i c) ?_
  · rw [eq_ix2 k] at hk ⊢
    obtain ⟨h0, h1⟩ := (row_lands d huw hiw hsd hivd idx _ _ r c).1 hk
    have e := (hidx (k 0)).symm.trans h0
    have e0 : k 0 = i := Fin.ext (by omega)
    exact congrArg upd (congrArg₂ ix2 e0 h1)
  · rw [row_lands d huw hiw hsd hivd, hidx, hri]
    exact ⟨rfl, rfl⟩

end Cert.RowMoves
-- ==== Proof.RingRead.lean ====
/-
  The reference's function: `inputs` written into `buffer` at the rows `arange(4096) mod 8192`, then the row `0 mod 8192`
  read. Here it is stated once as a function of the two arrays, for elements of any kind, and shown to be row 0 of `inputs`.
-/
module

public import proofs.«01_k».proof.Proof.RowMoves
public import Idealize.ShloMosaic.Lib.Routing.Words
public import Idealize.ShloMosaic.Lib.ReduceAll
public import Idealize.ShloMosaic.Lib.WordCmp
public import Idealize.ShloMosaic.Lib.Pipeline.Value

@[expose] public section

noncomputable section

namespace Cert.RingRead

open Idealize.ShloMosaic Idealize.ShloMosaic.ValueIdx Idealize.ShloMosaic.Routing

/-! ## One row number -/

/-- jnp's `mod` of a word by the buffer's 8192 rows: the signed remainder, moved up by the divisor where their signs differ
    (a divisor of zero is replaced by one). -/
def modWord (x : BitVec 32) : BitVec 32 :=
  let n := Scalar.select (IntOp.cmpi .eq 8192#32 0#32) 1#32 8192#32
  let r := IntOp.remsi .host x n
  Scalar.select (IntOp.andi (IntOp.cmpi .ne (IntOp.cmpi .slt r 0#32) (IntOp.cmpi .slt n 0#32)) (IntOp.cmpi .ne r 0#32))
    (r + n) r

/-- jnp's wrap of a negative row number. -/
def wrapWord (x : BitVec 32) : BitVec 32 := Scalar.select (IntOp.cmpi .slt x 0#32) (x + 8192#32) x

/-- The column of row numbers `arange(n) mod 8192`, wrapped. -/
def rowNumbers (n : Nat) : IVec (shape2 n 1) 32 := fun k => wrapWord (modWord (BitVec.ofNat 32 (k 0).val))

/-- The remainders of `0, 1, …, n - 1`, as the reference's vector operations compute them. -/
def modVec (n : Nat) (h0 : shape0.BroadcastsInDim (shape1 n) (![] : Fin 0 → Fin 1)) : IVec (shape1 n) 32 :=
  let d : IVec shape0 32 := select (cmpi .eq (id (constantI shape0 32 8192#32)) (constantI shape0 32 0#32))
    (constantI shape0 32 1#32) (id (constantI shape0 32 8192#32))
  let r : IVec (shape1 n) 32 := Host.remsi (iotaInDim (shape1 n) 32 0) (broadcastInDim (shape1 n) ![] h0 d)
  let z : IVec (shape1 n) 32 := broadcastInDim (shape1 n) ![] h0 (constantI shape0 32 0#32)
  select (andi (cmpi .ne (cmpi .slt r z) (broadcastInDim (shape1 n) ![] h0 (cmpi .slt d (constantI shape0 32 0#32)))) (cmpi .ne r z))
    (addi r (broadcastInDim (shape1 n) ![] h0 d)) r

/-- Those remainders wrapped and laid out as a column: the row numbers the reference passes to its scatter and its gather. -/
def rowColumn (n : Nat) (h0 : shape0.BroadcastsInDim (shape1 n) (![] : Fin 0 → Fin 1))
    (h1 : (shape1 n).BroadcastsInDim (shape2 n 1) (![0] : Fin 1 → Fin 2)) : IVec (shape2 n 1) 32 :=
  broadcastInDim (shape2 n 1) ![0] h1
    (select (cmpi .slt (modVec n h0) (broadcastInDim (shape1 n) ![] h0 (constantI shape0 32 0#32)))
      (addi (modVec n h0) (broadcastInDim (shape1 n) ![] h0 (constantI shape0 32 8192#32))) (modVec n h0))

/-- Element by element it is `rowNumbers`. -/
theorem rowColumn_eq (n : Nat) (h0 : shape0.BroadcastsInDim (shape1 n) (![] : Fin 0 → Fin 1))
    (h1 : (shape1 n).BroadcastsInDim (shape2 n 1) (![0] : Fin 1 → Fin 2)) : rowColumn n h0 h1 = rowNumbers n := by
  have hm : ∀ j : (shape1 n).Idx, modVec n h0 j = modWord (BitVec.ofNat 32 (j 0).val) := fun j => rfl
  funext k
  have hk : (k 0).val < n := (k 0).isLt
  refine (broadcastInDim_apply _ h1 _ k (ix1 (⟨(k 0).val, hk⟩ : Fin n)) fun a => ?_).trans ?_
  · rw [Subsingleton.elim (α := Fin 1) a 0]
    show (k 0).val = if n = 1 then 0 else (k 0).val
    split <;> omega
  · show wrapWord (modVec n h0 _) = wrapWord (modWord (BitVec.ofNat 32 (k 0).val))
    rw [hm]
    rfl

/-- The word of a number below 8192 is its own remainder by 8192. -/
theorem modWord_ofNat (a : Nat) (h : a < 8192) : modWord (BitVec.ofNat 32 a) = BitVec.ofNat 32 a := by
  have hn : Scalar.select (IntOp.cmpi .eq 8192#32 0#32) 1#32 8192#32 = BitVec.ofNat 32 8192 := by decide
  have hr : IntOp.remsi .host (BitVec.ofNat 32 a) (BitVec.ofNat 32 8192) = BitVec.ofNat 32 a := by
    rw [remsi_word .host (by omega) (by omega) (by omega), Nat.mod_eq_of_lt h]
  have hs : IntOp.cmpi .slt (BitVec.ofNat 32 a) 0#32 = 0#1 := by
    rw [WordCmp.cmpi_slt_zero, BitVec.toNat_ofNat, Nat.mod_eq_of_lt (by omega), decide_eq_false (by omega)]
    rfl
  -- neither sign bit is set, so the two signs agree and nothing is added
  have hc : ∀ b : BitVec 1, IntOp.andi (IntOp.cmpi .ne 0#1 (IntOp.cmpi .slt (BitVec.ofNat 32 8192) 0#32)) b = 0#1 := by decide
  unfold modWord
  dsimp only
  rw [hn, hr, hs, hc]
  rfl

/-- A number below 8192 is its own row number. -/
theorem rowNumbers_apply (n : Nat) (hn : n ≤ 8192) (k : (shape2 n 1).Idx) : rowNumbers n k = BitVec.ofNat 32 (k 0).val := by
  have hk : (k 0).val < n := (k 0).isLt
  unfold rowNumbers wrapWord
  rw [modWord_ofNat _ (by omega)]
  refine wrap_of_lt _ _ ?_
  rw [BitVec.toNat_ofNat, Nat.mod_eq_of_lt (by omega)]
  omega

/-- Read signed, it is that number. -/
theorem rowNumbers_toInt (n : Nat) (hn : n ≤ 8192) (i : Fin n) : (rowNumbers n (ix2 i (0 : Fin 1))).toInt = (i.val : Int) := by
  rw [rowNumbers_apply n hn, StableHlo.Predicate.toInt_ofNat_small]
  · rfl
  · have h : i.val < n := i.isLt
    show i.val < 2 ^ 31
    omega

/-! ## The write, then the read -/

/-- `buffer` (`x`) with `inputs` (`y`) written at the rows `rows`, then the row `row` read: a row number outside `lo … hi`
    would read `fill`. -/
def ringRead {α : Type} (ds : ScatterDims (shape2 8192 1024) (shape2 4096 1) (shape2 4096 1024))
    (dg : GatherDims (shape2 8192 1024) (shape2 1 1) (shape2 1 1024)) (hb : (shape1 1).BroadcastsInDim (shape2 1 1024) (![0] : Fin 1 → Fin 2))
    (hr : (shape2 1 1).ReducesTo [1] (shape1 1)) (hu : 0 < shape0.numel) (rows : IVec (shape2 4096 1) 32) (row lo hi : IVec (shape2 1 1) 32) (one : shape0.Idx → BitVec 1)
    (x : (shape2 8192 1024).Idx → α) (y : (shape2 4096 1024).Idx → α) (fill : (shape2 1 1024).Idx → α) : (shape2 1 1024).Idx → α :=
  select (broadcastInDim (shape2 1 1024) ![0] hb
      (Host.reduce IntOp.andi (andi (cmpi .sge row lo) (cmpi .sle row hi)) one hr hu))
    (Host.gather dg (Host.scatter ds (fun _ b => b) x rows y) row) fill

/-- THE REFERENCE'S VALUE, written at the rows `arange(4096) mod 8192` and read at `arange(1) mod 8192`: element `(0, j)` of the row read is element `(0, j)` of `inputs`. The row number read is 0, which
    is inside the bounds, and update 0 is the one that lands there. -/
theorem ringRead_eq {α : Type} (ds : ScatterDims (shape2 8192 1024) (shape2 4096 1) (shape2 4096 1024))
    (dg : GatherDims (shape2 8192 1024) (shape2 1 1) (shape2 1 1024)) (hb : (shape1 1).BroadcastsInDim (shape2 1 1024) (![0] : Fin 1 → Fin 2))
    (hr : (shape2 1 1).ReducesTo [1] (shape1 1)) (hu : 0 < shape0.numel) (x : (shape2 8192 1024).Idx → α)
    (y : (shape2 4096 1024).Idx → α) (fill : (shape2 1 1024).Idx → α)
    (huw : ds.updateWindowDims = [1]) (hiw : ds.insertedWindowDims = [0]) (hsd : ds.scatterDimsToOperandDims = [0])
    (hivd : ds.indexVectorDim = 1) (hoff : dg.offsetDims = [1]) (hcoll : dg.collapsedSliceDims = [0])
    (hob : dg.operandBatchingDims = []) (hsim : dg.startIndexMap = [0]) (hgiv : dg.indexVectorDim = 1) :
    ringRead ds dg hb hr hu (rowNumbers 4096) (rowNumbers 1) (fun _ => 0#32) (fun _ => 8191#32) (fun _ => 1#1) x y fill
      = fun k => y (ix2 (0 : Fin 4096) (k 1)) := by
  have h0 : ∀ k : (shape2 1 1).Idx, rowNumbers 1 k = 0#32 := fun k => by
    rw [rowNumbers_apply 1 (by omega), Fin.val_eq_zero (show Fin 1 from k 0)]
  funext k
  obtain ⟨j, rfl⟩ : ∃ j : Fin 1024, k = ix2 (0 : Fin 1) j :=
    ⟨k 1, (eq_ix2 k).trans (congrArg (fun a : Fin 1 => ix2 a (k 1 : Fin 1024)) (Subsingleton.elim (α := Fin 1) _ _))⟩
  have hm : Host.reduce IntOp.andi (andi (cmpi .sge (rowNumbers 1) (fun _ => 0#32)) (cmpi .sle (rowNumbers 1) (fun _ => 8191#32)))
      (fun _ => 1#1) hr hu = fun _ => 1#1 := funext fun j =>
    Host.reduce_andi_one _ _ hr hu j rfl fun i => by
      show IntOp.andi (IntOp.cmpi .sge (rowNumbers 1 i) 0#32) (IntOp.cmpi .sle (rowNumbers 1 i) 8191#32) = 1#1
      rw [h0]
      decide
  unfold ringRead
  rw [hm]
  show Host.gather dg (Host.scatter ds (fun _ b => b) x (rowNumbers 4096) y) (rowNumbers 1) (ix2 0 j) = y (ix2 0 j)
  rw [gather_row dg hoff hcoll hob hsim hgiv _ _ 0 j (0 : Fin 8192) (h0 _) (by omega)]
  exact RowMoves.scatter_rows ds huw hiw hsd hivd x _ y (rowNumbers_toInt 4096 (by omega)) 0 0 rfl j

end Cert.RingRead
-- ==== Proof.ReferenceIdealRow.lean ====
/-
  What the reference `ReferenceIdeal` returns: row 0 of `inputs`.
-/
module

public import proofs.«01_k».proof.Proof.Gen.ReferenceIdeal.Run
public import proofs.«01_k».proof.Proof.RingRead

@[expose] public section

noncomputable section

namespace Cert.ReferenceIdealRow

open Idealize.ShloMosaic Idealize.ShloMosaic.ValueIdx Idealize.SL.Sem
open Cert.ReferenceIdeal Cert.ReferenceIdeal.Gen

variable {F : FTy → Type} [FloatOps F]
variable (m : (ℓ : Loc nD τ sig) → Buf (Elt F) ℓ) (ρ : Dev nD → PrngReg)

/-- Row 0 of device `c`'s `inputs`, as a `(1, 1024)` array. -/
abbrev row0 (c : Dev nD) : Buf (Elt F) ((c.tc : Thread nD τ).loc main_v11) :=
  fun y : S1x1024.Idx => (m ((c.tc : Thread nD τ).loc main_arg0) : S4096x1024.Idx → Elt F .f32) (ix2 (0 : Fin 4096) (y 1))

set_option maxRecDepth 8192 in
/-- The reference's composed term is the write and the read of Proof/RingRead.lean. -/
theorem res_ring (c : Dev nD) : Value.res_main_v11 m c
    = RingRead.ringRead scatter_S8192x1024_S4096x1_S4096x1024_1_0_0_1 gather_S8192x1024_S1x1_S1x1024_1_0_n_n_0_1_11024
        bcast_S1_S1x1024_0 reducesTo_S1x1_S1_d1 h_S_
        (RingRead.rowColumn 4096 bcast_S_S4096 bcast_S4096_S4096x1_0) (RingRead.rowColumn 1 bcast_S_S1 bcast_S1_S1x1_0)
        (broadcastInDim S1x1 ![] bcast_S_S1x1 (constantI S_ 32 0#32))
        (broadcastInDim S1x1 ![1] bcast_S1_S1x1_1 (constantI S1 32 8191#32)) (constantI S_ 1 1#1)
        (m ((c.tc : Thread nD τ).loc main_arg1)) (m ((c.tc : Thread nD τ).loc main_arg0))
        (broadcastInDim S1x1024 ![] bcast_S_S1x1024 (constant S_ .f32 0x7FC00000#32)) := rfl

/-- So it is row 0 of `inputs`. -/
theorem res_row (c : Dev nD) : Value.res_main_v11 m c = row0 m c := by
  rw [res_ring, RingRead.rowColumn_eq, RingRead.rowColumn_eq]
  exact (RingRead.ringRead_eq _ _ _ _ _ _ _ _ rfl rfl rfl rfl rfl rfl rfl rfl rfl)

/-- The run: the result is row 0 of `inputs`, the arguments are unchanged. -/
theorem run_row : θ_run defs (onTc (τ := τ) (main (F := F))) ⟨m, fun _ => 0, ρ⟩ fun r => ∀ c : Dev nD,
      r.2.mem ((c.tc : Thread nD τ).loc main_v11) = row0 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res_row m c), (h c).2⟩) (Value.run m ρ)

end Cert.ReferenceIdealRow
-- ==== Proof.lean ====
/-
  The proof of `Cert.Claim` (proofs.«01_k».proof.Defs): the four frames, the idealization step, and the two value claims,
  the kernel's result against the reference's over extended reals and word for word. Both value claims rest on the same
  facts: the kernel leaves row 0 of `inputs` (Proof/KernelRow.lean, Proof/KernelIdealRow.lean) and so does the reference
  (Proof/ReferenceRow.lean, Proof/ReferenceIdealRow.lean, over Proof/RingRead.lean and Proof/RowMoves.lean).
-/
module

public import proofs.«01_k».proof.Defs
public import proofs.«01_k».proof.Proof.KernelRow
public import proofs.«01_k».proof.Proof.KernelIdealRow
public import proofs.«01_k».proof.Proof.ReferenceRow
public import proofs.«01_k».proof.Proof.ReferenceIdealRow
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The frame of the reference at words: it terminates, changes no argument, and has no semaphore to leave counting. -/
theorem frame_reference : Cert.quiescent_Reference (hReference := Cert.Reference.Gen.facts) := fun m ρ _ =>
  (θ_run Cert.Reference.defs _ _).mono (fun r h => ⟨fun c => (h c).2, sem_eq_zero_of_no_sems (by decide) r.2⟩)
    (Cert.ReferenceRow.run_row (F := Bits) m ρ)

/-- The frame of the reference over extended reals. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdealRow.run_row (F := Ideal) m ρ)

/-- Over extended reals the kernel and the reference end with the same result: row 0 of the `inputs` they share. -/
theorem same_ideal : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdealRow.row0 m c, Cert.KernelIdealRow.run_row m g, ?_⟩
  refine (θ_run Cert.ReferenceIdeal.defs _ _).mono (fun r h c => ⟨(h c).1.trans ?_, (h c).2⟩) (Cert.ReferenceIdealRow.run_row m' g')
  unfold Cert.ReferenceIdealRow.row0
  rw [(hagree c).1]
  rfl

/-- Word for word too, whatever the words of `inputs` are. -/
theorem same_words : Cert.bitexact_Kernel_Reference (hKernel := Cert.Kernel.Gen.facts) (hReference := Cert.Reference.Gen.facts) := by
  intro m g m' g' _ hagree
  refine ⟨fun c => Cert.KernelRow.row0 m c, Cert.KernelRow.run_row m g, ?_⟩
  refine (θ_run Cert.Reference.defs _ _).mono (fun r h c => ⟨(h c).1.trans ?_, (h c).2⟩) (Cert.ReferenceRow.run_row m' g')
  unfold Cert.ReferenceRow.row0
  rw [(hagree c).1]
  rfl

/-- Everything claimed. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, frame_reference, frame_referenceIdeal,
    trivial, same_ideal, same_words⟩

end Cert.Proof

end
